-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S262144x256 : Shape := ⟨2, ![262144, 256]⟩
abbrev S262144x128 : Shape := ⟨2, ![262144, 128]⟩
abbrev S_ : Shape := ⟨0, ![]⟩
abbrev S2048x128 : Shape := ⟨2, ![2048, 128]⟩

abbrev nBuf : Table → Nat
  | .hbm => 3
  | _ => 0

abbrev bufTy : (tb : Table) → Fin (nBuf tb) → BufTy
  | .hbm, ⟨0, _⟩ => ⟨S262144x256, .f32⟩
  | .hbm, ⟨1, _⟩ => ⟨S262144x128, .f32⟩
  | .hbm, ⟨2, _⟩ => ⟨S262144x128, .f32⟩
  | _, _ => ⟨S262144x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 1 → Bool
  | ⟨0, _⟩ => false
  | _ => false

abbrev sig : RefSig :=
  ofTables nBuf rfl bufTy 4 1 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v3 : BitVec 32 := Scalar.addi v2 c0_i32
  let c0_i32_0 : BitVec 32 := 0#32
  ![v3.toNat, 0]
def k0_off2 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v3 : BitVec 32 := Scalar.addi v2 c0_i32
  let c0_i32_1 : BitVec 32 := 0#32
  ![v3.toNat, 0]
def k0_off3 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v3 : BitVec 32 := Scalar.addi v2 c0_i32
  let c128_i32 : BitVec 32 := 128#32
  ![v3.toNat, 128]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S262144x256 : Shape := ⟨2, ![262144, 256]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S262144x128 : Shape := ⟨2, ![262144, 128]⟩

abbrev nBuf : Space → Nat
  | .hbm => 52
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S128, .i32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S_, .i32⟩
  | .hbm, ⟨7, _⟩ => ⟨S128, .i32⟩
  | .hbm, ⟨8, _⟩ => ⟨S128, .i1⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S128x1, .i32⟩
  | .hbm, ⟨14, _⟩ => ⟨S1, .i32⟩
  | .hbm, ⟨15, _⟩ => ⟨S_, .i32⟩
  | .hbm, ⟨16, _⟩ => ⟨S128x1, .i32⟩
  | .hbm, ⟨17, _⟩ => ⟨S128x1, .i1⟩
  | .hbm, ⟨18, _⟩ => ⟨S1x1, .i32⟩
  | .hbm, ⟨19, _⟩ => ⟨S128x1, .i32⟩
  | .hbm, ⟨20, _⟩ => ⟨S128x1, .i1⟩
  | .hbm, ⟨21, _⟩ => ⟨S128x1, .i1⟩
  | .hbm, ⟨22, _⟩ => ⟨S_, .i1⟩
  | .hbm, ⟨23, _⟩ => ⟨S128, .i1⟩
  | .hbm, ⟨24, _⟩ => ⟨S262144x128, .f32⟩
  | .hbm, ⟨25, _⟩ => ⟨S262144x128, .i1⟩
  | .hbm, ⟨26, _⟩ => ⟨S_, .f32⟩
  | .hbm, ⟨27, _⟩ => ⟨S262144x128, .f32⟩
  | .hbm, ⟨28, _⟩ => ⟨S262144x128, .f32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S1, .i32⟩
  | .hbm, ⟨38, _⟩ => ⟨S_, .i32⟩
  | .hbm, ⟨39, _⟩ => ⟨S128x1, .i32⟩
  | .hbm, ⟨40, _⟩ => ⟨S128x1, .i1⟩
  | .hbm, ⟨41, _⟩ => ⟨S1x1, .i32⟩
  | .hbm, ⟨42, _⟩ => ⟨S128x1, .i32⟩
  | .hbm, ⟨43, _⟩ => ⟨S128x1, .i1⟩
  | .hbm, ⟨44, _⟩ => ⟨S128x1, .i1⟩
  | .hbm, ⟨45, _⟩ => ⟨S_, .i1⟩
  | .hbm, ⟨46, _⟩ => ⟨S128, .i1⟩
  | .hbm, ⟨47, _⟩ => ⟨S262144x128, .f32⟩
  | .hbm, ⟨48, _⟩ => ⟨S262144x128, .i1⟩
  | .hbm, ⟨49, _⟩ => ⟨S_, .f32⟩
  | .hbm, ⟨50, _⟩ => ⟨S262144x128, .f32⟩
  | .hbm, ⟨51, _⟩ => ⟨S262144x128, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v4 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v5 : Ref sig .tc := ⟨.hbm, 51, rfl⟩

abbrev nD : Nat := 1
abbrev τ : Topo := Topo.v7x

variable {F : FTy → Type} [FloatOps F]
-- ==== Proof.Setup.lean ====
/-
  The split kernel as the launch theorem sees it, and what each tile is handed.

  The kernel runs on 2 SparseCores of 16 vector subcores. The tile of SparseCore `c` and subcore `s` copies the 8192
  rows from `(2 s + c) * 8192` on, in four chunks of 2048 rows; of every row it copies the columns 0 to 127 into the
  first result and the columns 128 to 255 into the second. So a tile needs eight rectangles of the input (two per
  chunk), four of each result, and nothing it touches is touched by another tile: every rectangle is handed over at the
  full share and comes back, the results' holding the input's halves.
-/
module

public import proofs.«01_k».proof.Defs
public import proofs.«01_k».proof.Proof.Gen.KernelIdeal
public import proofs.«01_k».proof.Proof.Gen.KernelIdeal.Skeleton
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.Tactic

@[expose] public section

noncomputable section

namespace Cert.Proof.Split

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

/-- The labels: the kernel's, lifted through the empty family of TensorCore pipelines. -/
abbrev ΛP : Labels := Pipeline.Sig Λ₀ (Fin 0) fun p => (pcfgs (F := F) p).Adm

/-- The one SparseCore call. -/
abbrev K : SparseCore.Cfg τ sig (ΛP (F := F)) 1 := sc (F := F)

/-- The kernel's body table, lifted. -/
abbrev D [FloatOps F] : Defs nD τ sig (Elt F) (ΛP (F := F)) := Pipeline.defs pcfgs defs₀

/-- The kernel calls nothing: no variant below, the lifted table's above. -/
abbrev 𝒱₀ : Variants := Variants.none
abbrev 𝒱 : Variants := 𝒱₀.lift
abbrev v₀ : 𝒱.V := Sum.inl none

/-- The launch semaphores are told apart and are nobody's scratch; no SparseCore buffer is shared by tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds and the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ)

/-- The input and the two results, as locations of device `d`. -/
abbrev iLoc (d : Dev nD) : Loc nD τ sig := (SparseCore.T d).loc main_arg0
abbrev aLoc (d : Dev nD) : Loc nD τ sig := (SparseCore.T d).loc main_v0_0
abbrev bLoc (d : Dev nD) : Loc nD τ sig := (SparseCore.T d).loc main_v0_1

/-- The same three as a tile names them. -/
abbrev iV : Memref sig .scVector .hbm S262144x256 .f32 := Memref.whole main_arg0_scv
abbrev aV : Memref sig .scVector .hbm S262144x128 .f32 := Memref.whole main_v0_0_scv
abbrev bV : Memref sig .scVector .hbm S262144x128 .f32 := Memref.whole main_v0_1_scv

/-- The place in the input of the element `(n, k)` of the first result: column `k`; -/
abbrev loIdx (j : S262144x128.Idx) : S262144x256.Idx :=
  fun a => match a with | ⟨0, _⟩ => ⟨(j 0).val, (j 0).isLt⟩ | ⟨1, _⟩ => ⟨(j 1).val, Nat.lt_of_lt_of_le (j 1).isLt (show 128 ≤ 256 by decide)⟩
/-- and of the second: column `128 + k`. -/
abbrev hiIdx (j : S262144x128.Idx) : S262144x256.Idx :=
  fun a => match a with | ⟨0, _⟩ => ⟨(j 0).val, (j 0).isLt⟩ | ⟨1, _⟩ => ⟨128 + (j 1).val, Nat.add_lt_add_left (j 1).isLt 128⟩

/-- What the two results hold in the end: the left and the right half of every row of the input. -/
def lo (d : Dev nD) : Buf (Elt F) (aLoc d) := fun j => m (iLoc d) (loIdx j)
def hi (d : Dev nD) : Buf (Elt F) (bLoc d) := fun j => m (iLoc d) (hiIdx j)

/-! ## The rectangles of chunk `r` of tile `L` -/

section Tile

variable (d : Dev nD) (L : grid0.Coords)

/-- The SparseCore and the subcore of the tile. -/
abbrev cV (L : grid0.Coords) : Fin τ.nSC := (L 0).castLE hcore0
abbrev jV (L : grid0.Coords) : Fin τ.nSub := (L 1).castLE hsub0

/-- The rectangle of a result, and those of the input's two halves. -/
abbrev oRect (r : Fin 4) : Rect S262144x128 := Rect.unit (s := S262144x128) (k0_off1 L (BitVec.ofNat 32 (2048 * r.val))) S2048x128.size (k0_off1_inb L r)
abbrev loRect (r : Fin 4) : Rect S262144x256 := Rect.unit (s := S262144x256) (k0_off2 L (BitVec.ofNat 32 (2048 * r.val))) S2048x128.size (k0_off2_inb L r)
abbrev hiRect (r : Fin 4) : Rect S262144x256 := Rect.unit (s := S262144x256) (k0_off3 L (BitVec.ofNat 32 (2048 * r.val))) S2048x128.size (k0_off3_inb L r)

/-- The slices the kernel copies from and into. -/
abbrev loM (r : Fin 4) : Memref sig .scVector .hbm S2048x128 .f32 := iV.slice (loRect L r) (fun _ => rfl)
abbrev hiM (r : Fin 4) : Memref sig .scVector .hbm S2048x128 .f32 := iV.slice (hiRect L r) (fun _ => rfl)
abbrev aM (r : Fin 4) : Memref sig .scVector .hbm S2048x128 .f32 := aV.slice (oRect L r) (fun _ => rfl)
abbrev bM (r : Fin 4) : Memref sig .scVector .hbm S2048x128 .f32 := bV.slice (oRect L r) (fun _ => rfl)

/-- Chunk `r`'s two halves of the input at its launch contents, and its rows of the two results at given contents. -/
def loPts (r : Fin 4) : sProp 𝕄 := iLoc d ↦[(loRect L r).set]{fullShare} m (iLoc d)
def hiPts (r : Fin 4) : sProp 𝕄 := iLoc d ↦[(hiRect L r).set]{fullShare} m (iLoc d)
def aPts (r : Fin 4) (f : Buf (Elt F) (aLoc d)) : sProp 𝕄 := aLoc d ↦[(oRect L r).set]{fullShare} f
def bPts (r : Fin 4) (f : Buf (Elt F) (bLoc d)) : sProp 𝕄 := bLoc d ↦[(oRect L r).set]{fullShare} f

/-- Everything tile `L` holds, the results at `f` and `g`. -/
def tilePts (f : Buf (Elt F) (aLoc d)) (g : Buf (Elt F) (bLoc d)) : sProp 𝕄 :=
  bigSep Finset.univ fun r : Fin 4 => iprop(loPts m d L r ∗ hiPts m d L r ∗ aPts d L r f ∗ bPts d L r g)

instance tilePts_storable (f : Buf (Elt F) (aLoc d)) (g : Buf (Elt F) (bLoc d)) :
    BI.Storable (upEmb : UEmb _ 𝕄) (tilePts m d L f g) := by
  unfold tilePts loPts hiPts aPts bPts; infer_instance

end Tile

/-! ## What the handshakes carry -/

/-- The coordinates of the tile of SparseCore `c` and subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile of task `i` of SparseCore `c` of the call. -/
abbrev tileOf (c : Fin 2) (i : Fin 16) : grid0.Coords := coordsV c i

/-- A SparseCore takes what its sixteen tiles need and brings it back, the results at the input's halves. -/
def P : (K (F := F)).Pay (nD := nD) (Val := Elt F) (Name := ℕ) (U := UU) where
  st := fun q d c => match q with
    | 0 => bigSep Finset.univ fun i : Fin 16 => tilePts m d (tileOf c i) (m (aLoc d)) (m (bLoc d))
  dn := fun q d c => match q with
    | 0 => bigSep Finset.univ fun i : Fin 16 => tilePts m d (tileOf c i) (lo m d) (hi m d)
  go := fun q d c i => match q with
    | 0 => tilePts m d (tileOf c i) (m (aLoc d)) (m (bLoc d))
  td := fun q d c i => match q with
    | 0 => tilePts m d (tileOf c i) (lo m d) (hi m d)
  x := fun _ _ => iprop(emp)

instance P_storable : (P (F := F) m).IsStorable where
  st q d c := match q with
    | 0 => (inferInstance : BI.Storable (upEmb : UEmb _ 𝕄) (bigSep Finset.univ fun i : Fin 16 => tilePts m d (tileOf c i) (m (aLoc d)) (m (bLoc d))))
  dn q d c := match q with
    | 0 => (inferInstance : BI.Storable (upEmb : UEmb _ 𝕄) (bigSep Finset.univ fun i : Fin 16 => tilePts m d (tileOf c i) (lo m d) (hi m d)))
  go q d c i := match q with
    | 0 => (inferInstance : BI.Storable (upEmb : UEmb _ 𝕄) (tilePts m d (tileOf c i) (m (aLoc d)) (m (bLoc d))))
  td q d c i := match q with
    | 0 => (inferInstance : BI.Storable (upEmb : UEmb _ 𝕄) (tilePts m d (tileOf c i) (lo m d) (hi m d)))

end Cert.Proof.Split

end
-- ==== Proof.Arrays.lean ====
/-
  The arrays cut into the tiles' rectangles and put together again. Row `n` of a result belongs to chunk
  `n / 2048 = 8 s + 4 c + r`: chunk `r` of subcore `s` of SparseCore `c`; so the rectangles of all the tiles' chunks
  cover each result once. The input's are twice as many, those of its left half and those of its right half.
-/
module

public import proofs.«01_k».proof.Proof.Setup

@[expose] public section

noncomputable section

namespace Cert.Proof.Split

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

local notation "𝕄" => MT nD τ sig (HIx 1) (Elt F) ℕ UU ℕ

variable (m : (ℓ : Loc nD τ sig) → Buf (Elt F) ℓ) (d : Dev nD)

/-- A chunk: of SparseCore `t.1`, subcore `t.2.1`, number `t.2.2`. -/
abbrev Chunk : Type := Fin 2 × Fin 16 × Fin 4

/-- The number of a chunk in row order. -/
abbrev Chunk.num (t : Chunk) : ℕ := 8 * t.2.1.val + 4 * t.1.val + t.2.2.val

theorem Chunk.num_inj {t t' : Chunk} (h : t.num = t'.num) : t = t' := by
  obtain ⟨c, s, r⟩ := t
  obtain ⟨c', s', r'⟩ := t'
  have h0 : 8 * s.val + 4 * c.val + r.val = 8 * s'.val + 4 * c'.val + r'.val := h
  have := c.isLt; have := c'.isLt; have := r.isLt; have := r'.isLt
  refine Prod.ext (Fin.ext ?_) (Prod.ext (Fin.ext ?_) (Fin.ext ?_)) <;> dsimp only <;> omega

/-- The chunk of a row. -/
def chunkOf (n : ℕ) (h : n < 262144) : Chunk :=
  (⟨n / 2048 % 8 / 4, by omega⟩, ⟨n / 2048 / 8, by omega⟩, ⟨n / 2048 % 4, by omega⟩)

theorem num_chunkOf (n : ℕ) (h : n < 262144) : (chunkOf n h).num = n / 2048 := by
  show 8 * (n / 2048 / 8) + 4 * (n / 2048 % 8 / 4) + n / 2048 % 4 = n / 2048
  omega

/-! ## The elements of the rectangles -/

abbrev oSet (t : Chunk) : Finset S262144x128.Idx := (oRect (tileOf t.1 t.2.1) t.2.2).set
abbrev loSet (t : Chunk) : Finset S262144x256.Idx := (loRect (tileOf t.1 t.2.1) t.2.2).set
abbrev hiSet (t : Chunk) : Finset S262144x256.Idx := (hiRect (tileOf t.1 t.2.1) t.2.2).set

theorem mem_oSet (t : Chunk) (j : S262144x128.Idx) : j ∈ oSet t ↔ (j 0).val / 2048 = t.num := by
  rw [Rect.mem_set_unit, k0_off1_eq]
  have h1 : (j 1).val < 128 := (j 1).isLt
  constructor
  · intro h
    have h0 : 16384 * t.2.1.val + 8192 * t.1.val + 2048 * t.2.2.val ≤ (j 0).val
        ∧ (j 0).val < 16384 * t.2.1.val + 8192 * t.1.val + 2048 * t.2.2.val + 2048 := h 0
    show (j 0).val / 2048 = 8 * t.2.1.val + 4 * t.1.val + t.2.2.val
    omega
  · intro h a
    have h0 : (j 0).val / 2048 = 8 * t.2.1.val + 4 * t.1.val + t.2.2.val := h
    match a with
    | ⟨0, _⟩ =>
      show 16384 * t.2.1.val + 8192 * t.1.val + 2048 * t.2.2.val ≤ (j 0).val
        ∧ (j 0).val < 16384 * t.2.1.val + 8192 * t.1.val + 2048 * t.2.2.val + 2048
      omega
    | ⟨1, _⟩ =>
      show 0 ≤ (j 1).val ∧ (j 1).val < 0 + 128
      omega

theorem mem_loSet (t : Chunk) (j : S262144x256.Idx) : j ∈ loSet t ↔ (j 0).val / 2048 = t.num ∧ (j 1).val < 128 := by
  rw [Rect.mem_set_unit, k0_off2_eq]
  constructor
  · intro h
    have h0 : 16384 * t.2.1.val + 8192 * t.1.val + 2048 * t.2.2.val ≤ (j 0).val
        ∧ (j 0).val < 16384 * t.2.1.val + 8192 * t.1.val + 2048 * t.2.2.val + 2048 := h 0
    have h1 : 0 ≤ (j 1).val ∧ (j 1).val < 0 + 128 := h 1
    show (j 0).val / 2048 = 8 * t.2.1.val + 4 * t.1.val + t.2.2.val ∧ (j 1).val < 128
    omega
  · intro h a
    have h0 : (j 0).val / 2048 = 8 * t.2.1.val + 4 * t.1.val + t.2.2.val ∧ (j 1).val < 128 := h
    match a with
    | ⟨0, _⟩ =>
      show 16384 * t.2.1.val + 8192 * t.1.val + 2048 * t.2.2.val ≤ (j 0).val
        ∧ (j 0).val < 16384 * t.2.1.val + 8192 * t.1.val + 2048 * t.2.2.val + 2048
      omega
    | ⟨1, _⟩ =>
      show 0 ≤ (j 1).val ∧ (j 1).val < 0 + 128
      omega

theorem mem_hiSet (t : Chunk) (j : S262144x256.Idx) : j ∈ hiSet t ↔ (j 0).val / 2048 = t.num ∧ 128 ≤ (j 1).val := by
  rw [Rect.mem_set_unit, k0_off3_eq]
  have hj : (j 1).val < 256 := (j 1).isLt
  constructor
  · intro h
    have h0 : 16384 * t.2.1.val + 8192 * t.1.val + 2048 * t.2.2.val ≤ (j 0).val
        ∧ (j 0).val < 16384 * t.2.1.val + 8192 * t.1.val + 2048 * t.2.2.val + 2048 := h 0
    have h1 : 128 ≤ (j 1).val ∧ (j 1).val < 128 + 128 := h 1
    show (j 0).val / 2048 = 8 * t.2.1.val + 4 * t.1.val + t.2.2.val ∧ 128 ≤ (j 1).val
    omega
  · intro h a
    have h0 : (j 0).val / 2048 = 8 * t.2.1.val + 4 * t.1.val + t.2.2.val ∧ 128 ≤ (j 1).val := h
    match a with
    | ⟨0, _⟩ =>
      show 16384 * t.2.1.val + 8192 * t.1.val + 2048 * t.2.2.val ≤ (j 0).val
        ∧ (j 0).val < 16384 * t.2.1.val + 8192 * t.1.val + 2048 * t.2.2.val + 2048
      omega
    | ⟨1, _⟩ =>
      show 128 ≤ (j 1).val ∧ (j 1).val < 128 + 128
      omega

/-! ## No two chunks share an element, and together they have them all -/

theorem oSet_disjoint : ∀ t ∈ (Finset.univ : Finset Chunk), ∀ t' ∈ (Finset.univ : Finset Chunk), t ≠ t' → Disjoint (oSet t) (oSet t') :=
  fun t _ t' _ hne => Finset.disjoint_left.mpr fun j hj hj' =>
    hne (Chunk.num_inj (((mem_oSet t j).mp hj).symm.trans ((mem_oSet t' j).mp hj')))

theorem loSet_disjoint : ∀ t ∈ (Finset.univ : Finset Chunk), ∀ t' ∈ (Finset.univ : Finset Chunk), t ≠ t' → Disjoint (loSet t) (loSet t') :=
  fun t _ t' _ hne => Finset.disjoint_left.mpr fun j hj hj' =>
    hne (Chunk.num_inj (((mem_loSet t j).mp hj).1.symm.trans ((mem_loSet t' j).mp hj').1))

theorem hiSet_disjoint : ∀ t ∈ (Finset.univ : Finset Chunk), ∀ t' ∈ (Finset.univ : Finset Chunk), t ≠ t' → Disjoint (hiSet t) (hiSet t') :=
  fun t _ t' _ hne => Finset.disjoint_left.mpr fun j hj hj' =>
    hne (Chunk.num_inj (((mem_hiSet t j).mp hj).1.symm.trans ((mem_hiSet t' j).mp hj').1))

theorem oSet_cover : (Finset.univ : Finset Chunk).biUnion oSet = Finset.univ := by
  refine Finset.eq_univ_iff_forall.mpr fun j => Finset.mem_biUnion.mpr ⟨chunkOf (j 0).val (j 0).isLt, Finset.mem_univ _, ?_⟩
  exact (mem_oSet _ j).mpr (num_chunkOf _ _).symm

theorem halves_disjoint : Disjoint ((Finset.univ : Finset Chunk).biUnion loSet) ((Finset.univ : Finset Chunk).biUnion hiSet) := by
  refine Finset.disjoint_left.mpr fun j hj hj' => ?_
  obtain ⟨t, -, ht⟩ := Finset.mem_biUnion.mp hj
  obtain ⟨t', -, ht'⟩ := Finset.mem_biUnion.mp hj'
  exact absurd ((mem_loSet t j).mp ht).2 (Nat.not_lt.mpr ((mem_hiSet t' j).mp ht').2)

theorem halves_cover : (Finset.univ : Finset Chunk).biUnion loSet ∪ (Finset.univ : Finset Chunk).biUnion hiSet = Finset.univ := by
  refine Finset.eq_univ_iff_forall.mpr fun j => Finset.mem_union.mpr ?_
  rcases Nat.lt_or_ge (j 1).val 128 with h | h
  · exact .inl (Finset.mem_biUnion.mpr ⟨chunkOf (j 0).val (j 0).isLt, Finset.mem_univ _, (mem_loSet _ j).mpr ⟨(num_chunkOf _ _).symm, h⟩⟩)
  · exact .inr (Finset.mem_biUnion.mpr ⟨chunkOf (j 0).val (j 0).isLt, Finset.mem_univ _, (mem_hiSet _ j).mpr ⟨(num_chunkOf _ _).symm, h⟩⟩)

/-! ## The arrays -/

theorem input_eq : (iLoc d ↦{fullShare} m (iLoc d) : sProp 𝕄)
    = iprop((bigSep Finset.univ fun t : Chunk => loPts m d (tileOf t.1 t.2.1) t.2.2) ∗ bigSep Finset.univ fun t : Chunk => hiPts m d (tileOf t.1 t.2.1) t.2.2) := by
  have hu : (iLoc d ↦[(Finset.univ : Finset Chunk).biUnion loSet ∪ (Finset.univ : Finset Chunk).biUnion hiSet]{fullShare} m (iLoc d) : sProp 𝕄)
      = iprop((iLoc d ↦[(Finset.univ : Finset Chunk).biUnion loSet]{fullShare} m (iLoc d)) ∗ iLoc d ↦[(Finset.univ : Finset Chunk).biUnion hiSet]{fullShare} m (iLoc d)) :=
    Idealize.SL.BI.Entails.antisymm
      (pointsTo_union (Ix := HIx 1) (Name := ℕ) (U := UU) (Lvl := ℕ) (q := fullShare) (f := m (iLoc d)) (ℓ := iLoc d) halves_disjoint).1
      (pointsTo_union (Ix := HIx 1) (Name := ℕ) (U := UU) (Lvl := ℕ) (q := fullShare) (f := m (iLoc d)) (ℓ := iLoc d) halves_disjoint).2
  rw [halves_cover, pointsTo_biUnion Finset.univ (ℓ := iLoc d) loSet loSet_disjoint,
    pointsTo_biUnion Finset.univ (ℓ := iLoc d) hiSet hiSet_disjoint] at hu
  exact hu

theorem first_eq (f : Buf (Elt F) (aLoc d)) :
    (aLoc d ↦{fullShare} f : sProp 𝕄) = bigSep Finset.univ fun t : Chunk => aPts d (tileOf t.1 t.2.1) t.2.2 f := by
  have h := pointsTo_biUnion (Ix := HIx 1) (Name := ℕ) (U := UU) (Lvl := ℕ) (q := fullShare) (f := f) Finset.univ (ℓ := aLoc d) oSet oSet_disjoint
  rw [oSet_cover] at h
  exact h

theorem second_eq (g : Buf (Elt F) (bLoc d)) :
    (bLoc d ↦{fullShare} g : sProp 𝕄) = bigSep Finset.univ fun t : Chunk => bPts d (tileOf t.1 t.2.1) t.2.2 g := by
  have h := pointsTo_biUnion (Ix := HIx 1) (Name := ℕ) (U := UU) (Lvl := ℕ) (q := fullShare) (f := g) Finset.univ (ℓ := bLoc d) oSet oSet_disjoint
  rw [oSet_cover] at h
  exact h

/-- The three arrays whole are what all the tiles hold. -/
theorem arrays_eq (f : Buf (Elt F) (aLoc d)) (g : Buf (Elt F) (bLoc d)) :
    (iprop((iLoc d ↦{fullShare} m (iLoc d)) ∗ (aLoc d ↦{fullShare} f) ∗ bLoc d ↦{fullShare} g) : sProp 𝕄)
      = bigSep Finset.univ fun c : Fin 2 => bigSep Finset.univ fun i : Fin 16 => tilePts m d (tileOf c i) f g := by
  have h : (bigSep Finset.univ fun t : Chunk => iprop(loPts m d (tileOf t.1 t.2.1) t.2.2 ∗ hiPts m d (tileOf t.1 t.2.1) t.2.2
        ∗ aPts d (tileOf t.1 t.2.1) t.2.2 f ∗ bPts d (tileOf t.1 t.2.1) t.2.2 g) : sProp 𝕄)
      = bigSep Finset.univ fun c : Fin 2 => bigSep Finset.univ fun i : Fin 16 => tilePts m d (tileOf c i) f g := by
    rw [bigSep_univ_prod]
    refine bigSep_congr fun c _ => ?_
    rw [bigSep_univ_prod]
    rfl
  rw [← h, bigSep_sep', bigSep_sep', bigSep_sep', ← first_eq, ← second_eq, input_eq]
  exact Idealize.SL.BI.equiv_iff.mp ⟨Idealize.SL.BI.sep_assoc, Idealize.SL.BI.sep_assoc'⟩

end Cert.Proof.Split

end
-- ==== Proof.Land.lean ====
/-
  What lands in a result's rectangle: a copy writes the whole rectangle with what it read of the input's rectangle, and
  the two rectangles are the same rows, the columns of the first result's being the input's from 0 on and of the
  second's from 128 on. So on the rectangle the result is the stated half of the input.
-/
module

public import proofs.«01_k».proof.Proof.Setup

@[expose] public section

noncomputable section

namespace Cert.Proof.Split

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The pieces as the tile addresses them -/

theorem loPts_eq (r : Fin 4) : (loPts m d L r : sProp 𝕄) = (loM L r).view.loc (V d (cV L) (jV L)) ↦[(loM L r).view.set]{fullShare} m (iLoc d) := by
  rw [show (loM L r).view.set = (loRect L r).set from by
    show ((View.whole (main_arg0_scv : Ref sig .scVector)).slice (loRect L r)).set = _
    rw [View.set_slice]; exact Finset.map_refl]; rfl
theorem hiPts_eq (r : Fin 4) : (hiPts m d L r : sProp 𝕄) = (hiM L r).view.loc (V d (cV L) (jV L)) ↦[(hiM L r).view.set]{fullShare} m (iLoc d) := by
  rw [show (hiM L r).view.set = (hiRect L r).set from by
    show ((View.whole (main_arg0_scv : Ref sig .scVector)).slice (hiRect L r)).set = _
    rw [View.set_slice]; exact Finset.map_refl]; rfl
theorem aPts_eq (r : Fin 4) (f : Buf (Elt F) (aLoc d)) : (aPts d L r f : sProp 𝕄) = (aM L r).view.loc (V d (cV L) (jV L)) ↦[(aM L r).view.set]{fullShare} f := by
  rw [show (aM L r).view.set = (oRect L r).set from by
    show ((View.whole (main_v0_0_scv : Ref sig .scVector)).slice (oRect L r)).set = _
    rw [View.set_slice]; exact Finset.map_refl]; rfl
theorem bPts_eq (r : Fin 4) (f : Buf (Elt F) (bLoc d)) : (bPts d L r f : sProp 𝕄) = (bM L r).view.loc (V d (cV L) (jV L)) ↦[(bM L r).view.set]{fullShare} f := by
  rw [show (bM L r).view.set = (oRect L r).set from by
    show ((View.whole (main_v0_1_scv : Ref sig .scVector)).slice (oRect L r)).set = _
    rw [View.set_slice]; exact Finset.map_refl]; rfl

/-! ## Where an element of a rectangle lies -/

theorem loIdx_emb (r : Fin 4) (x : S2048x128.Idx) : loIdx ((aM L r).view.emb x) = (loM L r).view.emb x := by
  funext a
  apply Fin.ext
  match a with
  | ⟨0, _⟩ =>
    show k0_off1 L (BitVec.ofNat 32 (2048 * r.val)) 0 + 1 * (x 0).val = k0_off2 L (BitVec.ofNat 32 (2048 * r.val)) 0 + 1 * (x 0).val
    rw [k0_off1_eq, k0_off2_eq]
  | ⟨1, _⟩ =>
    show k0_off1 L (BitVec.ofNat 32 (2048 * r.val)) 1 + 1 * (x 1).val = k0_off2 L (BitVec.ofNat 32 (2048 * r.val)) 1 + 1 * (x 1).val
    rw [k0_off1_eq, k0_off2_eq]

theorem hiIdx_emb (r : Fin 4) (x : S2048x128.Idx) : hiIdx ((bM L r).view.emb x) = (hiM L r).view.emb x := by
  funext a
  apply Fin.ext
  match a with
  | ⟨0, _⟩ =>
    show k0_off1 L (BitVec.ofNat 32 (2048 * r.val)) 0 + 1 * (x 0).val = k0_off3 L (BitVec.ofNat 32 (2048 * r.val)) 0 + 1 * (x 0).val
    rw [k0_off1_eq, k0_off3_eq]; rfl
  | ⟨1, _⟩ =>
    show 128 + (k0_off1 L (BitVec.ofNat 32 (2048 * r.val)) 1 + 1 * (x 1).val) = k0_off3 L (BitVec.ofNat 32 (2048 * r.val)) 1 + 1 * (x 1).val
    rw [k0_off1_eq, k0_off3_eq]
    show 128 + (0 + 1 * (x 1).val) = 128 + 1 * (x 1).val
    omega

/-! ## What a copy leaves -/

/-- Contents that read alike through a view agree on its elements. -/
theorem agree_of_read {κ : Kind} {sp : Space} {s : Shape} {e : EltTy} (v : View sig κ sp s e) (f g : v.ty.Contents (Elt F))
    (h : v.read (Elt F) f = v.read (Elt F) g) : ∀ i ∈ v.set, f i = g i := by
  intro i hi
  obtain ⟨x, -, rfl⟩ := Finset.mem_map.mp hi
  have := congrFun h x
  rw [View.read_apply, View.read_apply] at this
  exact (cast_bijective (congrArg (Elt F) v.elt_eq)).injective this

/-- A chunk of the first result after its copy. -/
theorem landed_a (r : Fin 4) (p : S2048x128.Idx → Elt F .f32) (hp : p = ReadAs.same.apply ((loM L r).view.read (Elt F) (m (iLoc d)))) :
    ((aM L r).view.loc (V d (cV L) (jV L)) ↦[(aM L r).view.set]{fullShare}
        (aM L r).view.writes (Elt F) (m (aLoc d)) [⟨Rect.whole S2048x128, p⟩] : sProp 𝕄) ⊢ aPts d L r (lo m d) := by
  subst hp
  rw [aPts_eq]
  refine .of_eq (pointsTo_congr (agree_of_read (aM L r).view _ _ ?_))
  rw [View.read_writes_whole]
  funext x
  show m (iLoc d) ((loM L r).view.emb x) = m (iLoc d) (loIdx ((aM L r).view.emb x))
  rw [loIdx_emb]

/-- A chunk of the second result after its copy. -/
theorem landed_b (r : Fin 4) (p : S2048x128.Idx → Elt F .f32) (hp : p = ReadAs.same.apply ((hiM L r).view.read (Elt F) (m (iLoc d)))) :
    ((bM L r).view.loc (V d (cV L) (jV L)) ↦[(bM L r).view.set]{fullShare}
        (bM L r).view.writes (Elt F) (m (bLoc d)) [⟨Rect.whole S2048x128, p⟩] : sProp 𝕄) ⊢ bPts d L r (hi m d) := by
  subst hp
  rw [bPts_eq]
  refine .of_eq (pointsTo_congr (agree_of_read (bM L r).view _ _ ?_))
  rw [View.read_writes_whole]
  funext x
  show m (iLoc d) ((hiM L r).view.emb x) = m (iLoc d) (hiIdx ((bM L r).view.emb x))
  rw [hiIdx_emb]

end Cert.Proof.Split

end
-- ==== Proof.Tile.lean ====
/-
  One tile's run: its eight copies are all started on the tile's one DMA semaphore and then waited for, one wait per
  copy. A wait before the last says nothing about which copy has landed (the semaphore counts units, and the units of
  different copies arrive in any order), so the eight copies are one counted batch: nothing is taken back until the
  eighth wait, which hands back all of them. Each result rectangle then holds what its copy read of the input, which is
  the stated half of the input on that rectangle.
-/
module

public import proofs.«01_k».proof.Proof.Land

@[expose] public section

noncomputable section

namespace Cert.Proof.Split

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The tile's four chunks -/

/-- The tile's four chunks, one by one. -/
theorem tilePts_eq (f : Buf (Elt F) (aLoc d)) (g : Buf (Elt F) (bLoc d)) :
    (tilePts m d L f g : sProp 𝕄)
      = iprop((loPts m d L 0 ∗ hiPts m d L 0 ∗ aPts d L 0 f ∗ bPts d L 0 g) ∗ (loPts m d L 1 ∗ hiPts m d L 1 ∗ aPts d L 1 f ∗ bPts d L 1 g)
          ∗ (loPts m d L 2 ∗ hiPts m d L 2 ∗ aPts d L 2 f ∗ bPts d L 2 g) ∗ (loPts m d L 3 ∗ hiPts m d L 3 ∗ aPts d L 3 f ∗ bPts d L 3 g)) := by
  unfold tilePts
  rw [show (Finset.univ : Finset (Fin 4)) = {0, 1, 2, 3} by decide, SparseCore.bigSep_insert' (by decide), SparseCore.bigSep_insert' (by decide),
    SparseCore.bigSep_insert' (by decide), bigSep_singleton]

/-! ## The tile's semaphore -/

/-- The DMA semaphore of a tile. -/
abbrev cell (d : Dev nD) (c : Fin τ.nSC) (i : Fin τ.nSub) : GSem nD τ sig := (V d c i, .dma cc0_scratch0.sem)

theorem ownSems0_V :
    (ownSems0 (V d (cV L) (jV L)) : sProp 𝕄)
      = iprop(semVal (cell d (cV L) (jV L)) 0 ∗ bigSep ((ownCells (V d (cV L) (jV L))).erase (cell d (cV L) (jV L))) fun g => semVal g 0) := by
  unfold SparseCore.Cfg.ownSems0
  rw [SparseCore.bigSep_erase' ((mem_ownCells (g := cell d (cV L) (jV L))).mpr ⟨rfl, by
      show (SemLoc.dma cc0_scratch0.sem : SemLoc sig).isScoped .scVector = true; decide⟩)]

/-- What one copy pays: every copy is of 2048 rows of 128 words. -/
abbrev credit : ℕ := RefSig.bitCredit S2048x128 .f32

variable [FloatOps F]

set_option maxHeartbeats 4000000 in
/-- The tile's run: from its rectangles, its buffers and semaphores, to the same with the results at the input's halves. -/
theorem tile_body (hF : (K (F := F)).Facts) (O : CellTallies nD τ sig (HIx 1)) (W : Waits sig (HIx 1)) (hO : ∀ g, O g none = 0) :
    iprop(levAts (K (F := F)).L (K (F := F)).lev ∗ emp
        ∗ tilePts m d L (m (aLoc d)) (m (bLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__split_halves L iV (Memref.isWhole_whole _) aV (Memref.isWhole_whole _) bV (Memref.isWhole_whole _) cc0_scratch0)
          fun _ => iprop(tilePts m d L (lo m d) (hi m d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__split_halves_eq_skeleton]; unfold cc0__split_halves_skel
  simp only [k0_part1_eq_skeleton]; unfold k0_part1_skel
  rw [(K (F := F)).scopedBufs_V hF d (cV L) (jV L), SparseCore.Cfg.scopedSems0_V (Val := Elt F) d (cV L) (jV L), ownSems0_V,
    tilePts_eq, tilePts_eq]
  rw [loPts_eq m d L 0, loPts_eq m d L 1, loPts_eq m d L 2, loPts_eq m d L 3, hiPts_eq m d L 0, hiPts_eq m d L 1, hiPts_eq m d L 2, hiPts_eq m d L 3,
    aPts_eq d L 0 (m (aLoc d)), aPts_eq d L 1 (m (aLoc d)), aPts_eq d L 2 (m (aLoc d)), aPts_eq d L 3 (m (aLoc d)),
    bPts_eq d L 0 (m (bLoc d)), bPts_eq d L 1 (m (bLoc d)), bPts_eq d L 2 (m (bLoc d)), bPts_eq d L 3 (m (bLoc d))]
  iintro ⟨#Hlv, -, ⟨⟨Hl0, Hh0, Ha0, Hb0⟩, ⟨Hl1, Hh1, Ha1, Hb1⟩, ⟨Hl2, Hh2, Ha2, Hb2⟩, Hl3, Hh3, Ha3, Hb3⟩, Hbufs, ⟨Hsem, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  imod (Transfers.batched_alloc (Lvl := ℕ) (countersEmb (U := UU)) (V d (cV L) (jV L)) (sm := SemLoc.dma (sig := sig) cc0_scratch0.sem)
    (default : HIx 1) credit 8 (E := Set.univ)) $$ Hsem with Hsem
  sl_exec
  sl_step
  isplitr [Hbufs Hsem Hsems HO]
  · isplitl [Hl0 Hh0 Ha0 Hb0]
    · isplitl [Hl0]; · iexact Hl0
      isplitl [Hh0]; · iexact Hh0
      isplitl [Ha0]
      · iapply (landed_a m d L 0 _ (by rfl)); iexact Ha0
      · iapply (landed_b m d L 0 _ (by rfl)); iexact Hb0
    isplitl [Hl1 Hh1 Ha1 Hb1]
    · isplitl [Hl1]; · iexact Hl1
      isplitl [Hh1]; · iexact Hh1
      isplitl [Ha1]
      · iapply (landed_a m d L 1 _ (by rfl)); iexact Ha1
      · iapply (landed_b m d L 1 _ (by rfl)); iexact Hb1
    isplitl [Hl2 Hh2 Ha2 Hb2]
    · isplitl [Hl2]; · iexact Hl2
      isplitl [Hh2]; · iexact Hh2
      isplitl [Ha2]
      · iapply (landed_a m d L 2 _ (by rfl)); iexact Ha2
      · iapply (landed_b m d L 2 _ (by rfl)); iexact Hb2
    isplitl [Hl3]; · iexact Hl3
    isplitl [Hh3]; · iexact Hh3
    isplitl [Ha3]
    · iapply (landed_a m d L 3 _ (by rfl)); iexact Ha3
    · iapply (landed_b m d L 3 _ (by rfl)); iexact Hb3
  isplitl [Hbufs]; · iexact Hbufs
  isplitl [Hsem Hsems]
  · isplitl [Hsem]; · iexact Hsem
    iexact Hsems
  iexists _
  isplitr
  rotate_left
  · iexact HO
  · ipureintro
    intro p hp
    simp only [Finset.mem_insert] at hp
    rcases hp with hp | hp | hp | hp | hp | hp | hp | hp | hp
    all_goals first
      | exact .inl hp
      | exact .inr (hp ▸ rfl)

end Cert.Proof.Split

end
-- ==== Proof.Launch.lean ====
/-
  The launch: every task of the one call runs its tile, a SparseCore's share is its sixteen tiles' already, and the main
  program hands the three arrays, cut into the tiles' rectangles, to the call and takes them back put together. In the end
  the input is as it was, the results are its two halves, and every semaphore reads zero.
-/
module

public import proofs.«01_k».proof.Proof.Arrays
public import proofs.«01_k».proof.Proof.Tile

@[expose] public section

noncomputable section

namespace Cert.Proof.Split

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## A task runs its tile -/

/-- A wait recorded at no call is in particular one the call's obligation allows. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W₁, %hW₁, HO⟩
  isplitl [HA]; · iexact HA
  isplitl [HB]; · iexact HB
  isplitl [HC]; · iexact HC
  iexists W₁
  isplitr
  · ipureintro
    intro p hp
    rcases hW₁ p hp with h | h
    · exact .inl h
    · exact .inr (.inl h)
  · iexact HO

section Body

variable [FloatOps F]

theorem body_of_vector (c : Fin τ.nSC) (s : Fin τ.nSub) :
    defs₀ (F := F) (.scVector c s) 0 ()
      = SparseCore.onTile hcore0 hsub0 (fun c s => cc0__split_halves (coordsV c s)
          iV (Memref.isWhole_whole _) aV (Memref.isWhole_whole _) bV (Memref.isWhole_whole _) cc0_scratch0) ⟨⟩ c s := rfl

set_option maxRecDepth 16384 in
theorem tileObl (hF : (K (F := F)).Facts) : (K (F := F)).TileObl (D (F := F)) 𝒱 (P m) v₀ 0 := by
  intro d c i O W hO _ _
  simp only [show (P (F := F) m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [body_of_vector]
  simp only [SparseCore.onTile, hci, and_self, ↓reduceDIte]
  exact (tile_body m d (coordsV ⟨_, hci.1⟩ ⟨_, hci.2⟩) hF O W hO).trans (wp_mono frame _ _ fun _ => waits_weaken)

end Body

/-- What a SparseCore takes is what its tiles take, and what they bring back is what it does. -/
theorem vecSplit : (K (F := F)).VecSplit' (P m) 0 := by
  intro d c
  show (bigSep Finset.univ fun i : Fin 16 => tilePts m d (tileOf c i) (m (aLoc d)) (m (bLoc d))) ⊢ |={Set.univ}=> iprop(
      (bigSep Finset.univ fun i : Fin 16 => tilePts m d (tileOf c i) (m (aLoc d)) (m (bLoc d)))
      ∗ ((bigSep Finset.univ fun i : Fin 16 => tilePts m d (tileOf c i) (lo m d) (hi m d))
          -∗ (bigSep Finset.univ fun i : Fin 16 => tilePts m d (tileOf c i) (lo m d) (hi m d))))
  iintro H
  imodintro
  isplitl [H]; · iexact H
  iintro H'
  iexact H'

/-! ## The ghost state at the launch -/

/-- The handshakes' rounds at their start, and no counter. -/
def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) :=
    (bigSep_congr fun _ _ => bigSep_univ_of_subsingleton (0 : Fin 1)).trans (bigSep_emp_const _)
  rw [hx, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

/-! ## The main program -/

/-- The three arrays are the only buffers that outlive a call. -/
theorem unscopedBufs_eq (d : Dev nD) (W : (b : Ref sig .tc) → Buf (Elt F) ((d.tc : Thread nD τ).loc b)) :
    (unscopedBufs d W : sProp 𝕄) = iprop((iLoc d ↦{fullShare} W main_arg0) ∗ (aLoc d ↦{fullShare} W main_v0_0) ∗ bLoc d ↦{fullShare} W main_v0_1) := by
  unfold unscopedBufs
  rw [show (Finset.univ.filter fun b : Ref sig .tc => ¬ b.isScoped) = {main_arg0, main_v0_0, main_v0_1} by decide,
    SparseCore.bigSep_insert' (by decide), SparseCore.bigSep_insert' (by decide), bigSep_singleton]

/-- What the call takes, and what it gives back: the three arrays. -/
theorem start_eq (d : Dev nD) : (bigSep Finset.univ fun c : Fin ((K (F := F)).nCore 0) => (P m).st 0 d c)
    = (iprop((iLoc d ↦{fullShare} m (iLoc d)) ∗ (aLoc d ↦{fullShare} m (aLoc d)) ∗ bLoc d ↦{fullShare} m (bLoc d)) : sProp 𝕄) :=
  (arrays_eq m d _ _).symm
theorem done_eq (d : Dev nD) : (bigSep Finset.univ fun c : Fin ((K (F := F)).nCore 0) => (P m).dn 0 d c)
    = (iprop((iLoc d ↦{fullShare} m (iLoc d)) ∗ (aLoc d ↦{fullShare} lo m d) ∗ bLoc d ↦{fullShare} hi m d) : sProp 𝕄) :=
  (arrays_eq m d _ _).symm

/-- The arrays in the end. -/
abbrev FIN (d : Dev nD) : sProp 𝕄 := iprop((iLoc d ↦{fullShare} m (iLoc d)) ∗ (aLoc d ↦{fullShare} lo m d) ∗ bLoc d ↦{fullShare} hi m d)

section Main

variable [FloatOps F]

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Harr, Hts, -⟩, -⟩
  iapply ((K (F := F)).wp_run (D (F := F)) 𝒱 (EH := EH) (P := P m) κ d 0) $$ [Hst Harr Hb Hts]
  isplitr; · iexact Hctx
  isplitl [Hst]; · iexact Hst
  isplitl [Harr]
  · rw [start_eq]
    iexact Harr
  iintro ⟨Hst, Hdn⟩
  ihave Hfin := (Entails.of_eq (done_eq m d)) $$ Hdn
  imodintro
  isplitl [Hst]; · iexact Hst
  isplitl [Hfin]; · iexact Hfin
  isplitl [Hb] <;> iassumption

end Main

/-! ## The final memory -/

/-- What the final memory says of device `d`'s arrays. -/
def fq (d : Dev nD) (s : Phys nD τ sig (Elt F)) : Prop :=
  s.mem.mem (iLoc d) = m (iLoc d) ∧ s.mem.mem (aLoc d) = lo m d ∧ s.mem.mem (bLoc d) = hi m d

set_option maxRecDepth 16384 in
theorem hfin (d : Dev nD) (s : Phys nD τ sig (Elt F)) : iprop(FIN m d ∗ SI s) ⊢ (⌜fq m d s⌝ : sProp 𝕄) := by
  iintro ⟨⟨Hi, Ha, Hb⟩, HSI⟩
  ihave H := (persistent_entails_right (SI_pointsTo_agree (st := s) (ℓ := iLoc d) (I := Finset.univ) (q := fullShare) (f := m (iLoc d)))) $$ [HSI Hi]
  · isplitl [HSI] <;> iassumption
  icases H with ⟨%h1, HSI, -⟩
  ihave H := (persistent_entails_right (SI_pointsTo_agree (st := s) (ℓ := aLoc d) (I := Finset.univ) (q := fullShare) (f := lo m d))) $$ [HSI Ha]
  · isplitl [HSI] <;> iassumption
  icases H with ⟨%h2, HSI, -⟩
  ihave H := (SI_pointsTo_agree (st := s) (ℓ := bLoc d) (I := Finset.univ) (q := fullShare) (f := hi m d)) $$ [HSI Hb]
  · isplitl [HSI] <;> iassumption
  icases H with %h3
  ipureintro
  exact ⟨funext fun i => h1 i (Finset.mem_univ i), funext fun i => h2 i (Finset.mem_univ i), funext fun i => h3 i (Finset.mem_univ i)⟩

/-- The run's outcome: the input as it was, the results its halves, every semaphore at zero. -/
def QC : PUnit × MemSt nD τ sig (Elt F) → Prop := fun r =>
  (∀ c : Dev nD, r.2.mem (iLoc c) = m (iLoc c) ∧ r.2.mem (aLoc c) = lo m c ∧ r.2.mem (bLoc c) = hi m c) ∧ r.2.sem = fun _ => 0

variable [FloatOps F]

/-- Every execution of the kernel ends so, whatever the numbers are made of. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Split

end
-- ==== Proof.Values.lean ====
/-
  The reference's results, read element by element. It takes columns of the input by a list of 128 column numbers: a
  negative number is wrapped around first, then each column is fetched (the fetch clamps a number past the last column),
  and the columns whose number was out of range are replaced by a fixed number. The two lists are 0 … 127 and 128 … 255,
  all in range: nothing is wrapped, clamped or replaced, and column `k` of a result is the list's `k`-th column.
-/
module

public import proofs.«01_k».proof.Defs
public import proofs.«01_k».proof.Proof.Gen.ReferenceIdeal.Run
public import Idealize.ShloMosaic.Lib.ReduceAll
public import Idealize.ShloMosaic.Lib.Quiescent

@[expose] public section

noncomputable section

namespace Cert.Proof.Columns

open Cert.ReferenceIdeal Cert.ReferenceIdeal.Gen Idealize.ShloMosaic Idealize.SL.Sem

variable {F : FTy → Type} [FloatOps F]

/-- The column numbers as the fetch reads them: negative ones wrapped around, kept as a column of words. -/
abbrev wrapped (ix : IVec S128 32) : IVec S128x1 32 :=
  broadcastInDim S128x1 ![0] bcast_S128_S128x1_0
    (select (cmpi .slt ix (broadcastInDim S128 ![] bcast_S_S128 (constantI S_ 32 0#32)))
      (addi ix (broadcastInDim S128 ![] bcast_S_S128 (constantI S_ 32 256#32))) ix)

/-- Which column numbers are in range. -/
abbrev inRange (ix : IVec S128 32) : IVec S128 1 :=
  Host.reduce IntOp.andi
    (andi (cmpi .sge (wrapped ix) (broadcastInDim S128x1 ![] bcast_S_S128x1 (constantI S_ 32 0#32)))
      (cmpi .sle (wrapped ix) (broadcastInDim S128x1 ![0, 1] bcast_S1x1_S128x1_0_1 (broadcastInDim S1x1 ![1] bcast_S1_S1x1_1 (constantI S1 32 255#32)))))
    (constantI S_ 1 1#1) reducesTo_S128x1_S128_d1 h_S_

/-- What the reference computes of the input and a list of column numbers. -/
abbrev taken (x : S262144x256.Idx → Elt F .f32) (ix : IVec S128 32) : S262144x128.Idx → Elt F .f32 :=
  select (broadcastInDim S262144x128 ![1] bcast_S128_S262144x128_1 (inRange ix))
    (Host.gather gather_S262144x256_S128x1_S262144x128_0_1_n_n_1_1_2621441 x (wrapped ix))
    (broadcastInDim S262144x128 ![] bcast_S_S262144x128 (constant S_ .f32 0x7FC00000#32))

/-- Row `j 0` and column `k` of the input. -/
abbrev cell (j : S262144x128.Idx) (k : ℕ) (h : k < 256) : S262144x256.Idx :=
  fun a => match a with | ⟨0, _⟩ => ⟨(j 0).val, (j 0).isLt⟩ | ⟨1, _⟩ => ⟨k, h⟩

/-- Place `k` of a list of 128. -/
abbrev place (k : Fin 128) : S128.Idx := fun a => match a with | ⟨0, _⟩ => k

/-! ## Words that are column numbers -/

theorem toInt_small (v : BitVec 32) (h : v.toNat < 256) : v.toInt = v.toNat := by
  rw [BitVec.toInt_eq_toNat_cond]; split <;> omega

theorem not_neg (v : BitVec 32) (h : v.toNat < 256) : IntOp.cmpi .slt v 0#32 = 0#1 := by
  show BitVec.ofBool (v.slt 0#32) = 0#1
  have : v.slt 0#32 = false := by
    rw [BitVec.slt_eq_decide, decide_eq_false_iff_not, toInt_small v h]
    show ¬ (v.toNat : ℤ) < 0
    omega
  rw [this]; rfl

theorem in_bounds (v : BitVec 32) (h : v.toNat < 256) : IntOp.andi (IntOp.cmpi .sge v 0#32) (IntOp.cmpi .sle v 255#32) = 1#1 := by
  show IntOp.andi (BitVec.ofBool ((0#32).sle v)) (BitVec.ofBool (v.sle 255#32)) = 1#1
  have h0 : (0#32).sle v = true := by
    rw [BitVec.sle_eq_decide, decide_eq_true_eq, toInt_small v h]
    show (0 : ℤ) ≤ v.toNat
    omega
  have h1 : v.sle 255#32 = true := by
    rw [BitVec.sle_eq_decide, decide_eq_true_eq, toInt_small v h]
    show (v.toNat : ℤ) ≤ 255
    omega
  rw [h0, h1]; rfl

/-! ## The fetch -/

variable {ix : IVec S128 32}

/-- Nothing is wrapped around. -/
theorem wrapped_apply (h : ∀ k, (ix k).toNat < 256) (i : S128x1.Idx) : wrapped ix i = ix (place (i 0)) := by
  have e : wrapped ix i = (select (cmpi .slt ix (broadcastInDim S128 ![] bcast_S_S128 (constantI S_ 32 0#32)))
      (addi ix (broadcastInDim S128 ![] bcast_S_S128 (constantI S_ 32 256#32))) ix) (place (i 0)) := by
    unfold wrapped broadcastInDim
    congr 1
    funext a
    match a with
    | ⟨0, _⟩ => rfl
  rw [e]
  show Scalar.select (IntOp.cmpi .slt (ix (place (i 0))) 0#32) _ _ = _
  rw [not_neg _ (h _)]
  rfl

/-- Every column number is in range. -/
theorem inRange_eq (h : ∀ k, (ix k).toNat < 256) (k : S128.Idx) : inRange ix k = 1#1 := by
  unfold inRange
  apply Host.reduce_andi_one
  · rfl
  · intro i
    show IntOp.andi (IntOp.cmpi .sge (wrapped ix i) 0#32) (IntOp.cmpi .sle (wrapped ix i) 255#32) = 1#1
    rw [wrapped_apply h]
    exact in_bounds _ (h _)

/-- The fetch at an element: the row's own, the column the list's. -/
theorem fetch_apply (x : S262144x256.Idx → Elt F .f32) (w : IVec S128x1 32) (j : S262144x128.Idx)
    (v : BitVec 32) (hw : w (fun a => match a with | ⟨0, _⟩ => ⟨(j 1).val, (j 1).isLt⟩ | ⟨1, _⟩ => ⟨0, Nat.one_pos⟩) = v) (h : v.toNat < 256) :
    Host.gather gather_S262144x256_S128x1_S262144x128_0_1_n_n_1_1_2621441 x w j = x (cell j v.toNat h) := by
  let g := gather_S262144x256_S128x1_S262144x128_0_1_n_n_1_1_2621441
  unfold Host.gather
  congr 1
  funext a
  refine Fin.ext ?_
  show g.start j w a + g.batchCoord j a + g.offCoord j a = _
  rw [GatherDims.batchCoord_eq_zero _ _ _ List.not_mem_nil]
  match a with
  | ⟨0, _⟩ =>
    show g.start j w (0 : Fin 2) + 0 + g.offCoord j (0 : Fin 2) = _
    unfold GatherDims.start GatherDims.offCoord
    rw [dif_neg (show ¬ (0 : Fin 2) ∈ g.startIndexMap by decide), dif_pos (show (0 : Fin 2) ∈ g.sKept by decide)]
    show 0 + 0 + (j 0).val = (j 0).val
    omega
  | ⟨1, _⟩ =>
    show g.start j w (1 : Fin 2) + 0 + g.offCoord j (1 : Fin 2) = _
    rw [GatherDims.offCoord_eq_zero _ _ _ (show ¬ (1 : Fin 2) ∈ g.sKept by decide)]
    unfold GatherDims.start
    rw [dif_pos (show (1 : Fin 2) ∈ g.startIndexMap by decide)]
    rw [show g.siIdx j ⟨List.idxOf (1 : Fin 2) g.startIndexMap, List.idxOf_lt_length_iff.2 (by decide)⟩
        = (fun a => match a with | ⟨0, _⟩ => ⟨(j 1).val, (j 1).isLt⟩ | ⟨1, _⟩ => ⟨0, Nat.one_pos⟩) from by
      funext b
      refine Fin.ext ?_
      match b with
      | ⟨0, _⟩ => rfl
      | ⟨1, _⟩ => rfl, hw]
    show min v.toInt.toNat (256 - 1) + 0 + 0 = v.toNat
    rw [toInt_small v h]
    omega

/-- What the reference computes, at an element. -/
theorem taken_apply (x : S262144x256.Idx → Elt F .f32) (h : ∀ k, (ix k).toNat < 256) (j : S262144x128.Idx)
    (k : ℕ) (hk : k < 256) (hv : (ix (place (j 1))).toNat = k) :
    taken x ix j = x (cell j k hk) := by
  subst hv
  show Scalar.select (inRange ix _) (Host.gather _ x (wrapped ix) j) _ = _
  rw [inRange_eq h]
  exact fetch_apply x _ j _ (wrapped_apply h _) (h _)

/-! ## The two lists -/

/-- 0 … 127, and 128 … 255. -/
abbrev list₀ : IVec S128 32 := iotaInDim S128 32 0
abbrev list₁ : IVec S128 32 := addi (broadcastInDim S128 ![] bcast_S_S128 (constantI S_ 32 128#32)) (iotaInDim S128 32 0)

theorem list₀_toNat (k : S128.Idx) : (list₀ k).toNat = (k 0).val := by
  have hk : (k 0).val < 128 := (k 0).isLt
  show (BitVec.ofNat 32 (k 0).val).toNat = _
  rw [BitVec.toNat_ofNat]
  omega

theorem list₁_toNat (k : S128.Idx) : (list₁ k).toNat = 128 + (k 0).val := by
  have hk : (k 0).val < 128 := (k 0).isLt
  show (128#32 + BitVec.ofNat 32 (k 0).val).toNat = _
  rw [BitVec.toNat_add, BitVec.toNat_ofNat, BitVec.toNat_ofNat]
  omega

theorem lt₁ (j : S262144x128.Idx) : (j 1).val < 128 := (j 1).isLt

/-- The first result is the left half of every row. -/
theorem first_apply (x : S262144x256.Idx → Elt F .f32) (j : S262144x128.Idx) :
    taken x list₀ j = x (cell j (j 1).val (by have := lt₁ j; omega)) :=
  taken_apply x (fun k => by have : (k 0).val < 128 := (k 0).isLt; rw [list₀_toNat]; omega) j _ _ (list₀_toNat (place (j 1)))

/-- The second result is the right half of every row. -/
theorem second_apply (x : S262144x256.Idx → Elt F .f32) (j : S262144x128.Idx) :
    taken x list₁ j = x (cell j (128 + (j 1).val) (by have := lt₁ j; omega)) :=
  taken_apply x (fun k => by have : (k 0).val < 128 := (k 0).isLt; rw [list₁_toNat]; omega) j _ _ (list₁_toNat (place (j 1)))

/-- The reference's run in these words. -/
theorem run_taken (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v4) = taken (m ((c.tc : Thread nD τ).loc main_arg0)) list₀
      ∧ r.2.mem ((c.tc : Thread nD τ).loc main_v5) = taken (m ((c.tc : Thread nD τ).loc main_arg0)) list₁
      ∧ r.2.mem ((c.tc : Thread nD τ).loc main_arg0) = m ((c.tc : Thread nD τ).loc main_arg0) :=
  Cert.ReferenceIdeal.Value.run m ρ

/-- The reference leaves its argument alone, and it declares no semaphore. -/
theorem frame_reference : Cert.quiescent_ReferenceIdeal := fun m ρ _ =>
  (θ_run defs _ _).mono (fun r h => ⟨fun c => (h c).2.2, sem_eq_zero_of_no_sems (by decide) r.2⟩) (run_taken m ρ)

end Cert.Proof.Columns

end
-- ==== Proof.lean ====
/-
  The certificate of the kernel that splits every row of a table into its two halves.

  The kernel's run (Proof/Launch.lean `run_main`) is stated once, whatever the numbers are made of: both results hold the
  halves of the input, the input is as it was, every semaphore is at zero. Read at machine words and at the extended reals
  it gives the two kernel frames. The reference's results, read element by element (Proof/Values.lean), are the same
  halves, so both programs compute the same function.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Values

@[expose] public section

noncomputable section

namespace Cert.Proof

open Idealize.ShloMosaic Idealize.SL.Sem

/-- The kernel on machine words runs, leaves its argument alone and every semaphore at zero. -/
theorem frame_kernel : Cert.quiescent_Kernel := fun m ρ _ =>
  (θ_run Cert.KernelIdeal.defs _ _).mono (fun _ h => ⟨fun c => (h.1 c).1, h.2⟩) (Split.run_main (F := Bits) m ρ)

/-- So does the kernel on extended reals. -/
theorem frame_kernelIdeal : Cert.quiescent_KernelIdeal := fun m ρ _ =>
  (θ_run Cert.KernelIdeal.defs _ _).mono (fun _ h => ⟨fun c => (h.1 c).1, h.2⟩) (Split.run_main (F := Ideal) m ρ)

/-- Kernel and reference end with the same two results: the left and the right half of every row of the input. -/
theorem same_results : Cert.algebraic_KernelIdeal_ReferenceIdeal := fun m ρ m' ρ' _ hm =>
  ⟨Split.lo m, Split.hi m,
    (θ_run Cert.KernelIdeal.defs _ _).mono (fun _ h c => ⟨(h.1 c).2.1, (h.1 c).2.2, (h.1 c).1⟩) (Split.run_main (F := Ideal) m ρ),
    (θ_run Cert.ReferenceIdeal.defs _ _).mono
      (fun _ h c => ⟨(h c).1.trans (funext fun j => (Columns.first_apply _ j).trans (congrFun (hm c) _)),
        (h c).2.1.trans (funext fun j => (Columns.second_apply _ j).trans (congrFun (hm c) _)), (h c).2.2⟩)
      (Columns.run_taken m' ρ')⟩

theorem claim : Cert.Claim := ⟨Cert.Kernel.Gen.facts, Cert.KernelIdeal.Gen.facts, Cert.ReferenceIdeal.Gen.facts,
  frame_kernel, frame_kernelIdeal, Columns.frame_reference, trivial, same_results⟩

end Cert.Proof

end
